-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v2_0)) (v4 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_v2_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x32 : Shape := ⟨4, ![8, 32, 32, 32]⟩
abbrev S8192x32 : Shape := ⟨2, ![8192, 32]⟩
abbrev S8192x8192 : Shape := ⟨2, ![8192, 8192]⟩
abbrev S8192 : Shape := ⟨1, ![8192]⟩
abbrev S1x1 : Shape := ⟨2, ![1, 1]⟩
abbrev S128x32 : Shape := ⟨2, ![128, 32]⟩
abbrev S128x8192 : Shape := ⟨2, ![128, 8192]⟩
abbrev S128 : Shape := ⟨1, ![128]⟩
abbrev S1 : Shape := ⟨1, ![1]⟩
abbrev S1x8192 : Shape := ⟨2, ![1, 8192]⟩
abbrev S128x1 : Shape := ⟨2, ![128, 1]⟩
abbrev S128x4096 : Shape := ⟨2, ![128, 4096]⟩
abbrev S1x128x32 : Shape := ⟨3, ![1, 128, 32]⟩
abbrev S1x1x1 : Shape := ⟨3, ![1, 1, 1]⟩
abbrev S1x1x8192 : Shape := ⟨3, ![1, 1, 8192]⟩
abbrev S_ : Shape := ⟨0, ![]⟩

abbrev nBuf : Space → Nat
  | .hbm => 13
  | .vmem => 13
  | .smem => 1
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x8192, .f32⟩
  | .hbm, ⟨5, _⟩ => ⟨S8192, .i32⟩
  | .hbm, ⟨6, _⟩ => ⟨S8192x32, .f32⟩
  | .hbm, ⟨7, _⟩ => ⟨S1x1, .f32⟩
  | .hbm, ⟨8, _⟩ => ⟨S1x1, .f32⟩
  | .hbm, ⟨9, _⟩ => ⟨S8x32x32x32, .f32⟩
  | .hbm, ⟨10, _⟩ => ⟨S8x32x32x32, .f32⟩
  | .hbm, ⟨11, _⟩ => ⟨S_, .f32⟩
  | .hbm, ⟨12, _⟩ => ⟨S_, .f32⟩
  | .local _ .vmem, ⟨0, _⟩ => ⟨S128x32, .f32⟩
  | .local _ .vmem, ⟨1, _⟩ => ⟨S128x32, .f32⟩
  | .local _ .vmem, ⟨2, _⟩ => ⟨S8192x32, .f32⟩
  | .local _ .vmem, ⟨3, _⟩ => ⟨S128x8192, .f32⟩
  | .local _ .vmem, ⟨4, _⟩ => ⟨S128x8192, .f32⟩
  | .local _ .vmem, ⟨5, _⟩ => ⟨S128, .i32⟩
  | .local _ .vmem, ⟨6, _⟩ => ⟨S128, .i32⟩
  | .local _ .vmem, ⟨7, _⟩ => ⟨S128x32, .f32⟩
  | .local _ .vmem, ⟨8, _⟩ => ⟨S128x32, .f32⟩
  | .local _ .vmem, ⟨9, _⟩ => ⟨S1x1, .f32⟩
  | .local _ .vmem, ⟨10, _⟩ => ⟨S1x1, .f32⟩
  | .local _ .vmem, ⟨11, _⟩ => ⟨S1x8192, .f32⟩
  | .local _ .vmem, ⟨12, _⟩ => ⟨S1x8192, .f32⟩
  | .local _ .smem, ⟨0, _⟩ => ⟨S1, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v75 : BitVec 1 := Scalar.cmpi .eq arg0 c63_i32
  let v76 : BitVec 32 := Scalar.extui v75
  let c0_i32_30 : BitVec 32 := 0#32
  let v77 : BitVec 1 := Scalar.cmpi .ne v76 c0_i32_30
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x32x32x32 : Shape := ⟨4, ![8, 32, 32, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S8192x2 : Shape := ⟨2, ![8192, 2]⟩

abbrev nBuf : Space → Nat
  | .hbm => 83
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S8192x32, .f32⟩
  | .hbm, ⟨2, _⟩ => ⟨S8x32x32x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S32x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .f32⟩
  | .hbm, ⟨27, _⟩ => ⟨S8192x8192, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x1, .i32⟩
  | .hbm, ⟨45, _⟩ => ⟨S8192x2, .i32⟩
  | .hbm, ⟨46, _⟩ => ⟨S_, .f32⟩
  | .hbm, ⟨47, _⟩ => ⟨S8192, .f32⟩
  | .hbm, ⟨48, _⟩ => ⟨S8192x8192, .f32⟩
  | .hbm, ⟨49, _⟩ => ⟨S8192x32, .f32⟩
  | .hbm, ⟨50, _⟩ => ⟨S8x32x32x32, .f32⟩
  | .hbm, ⟨51, _⟩ => ⟨S8x32x32x32, .f32⟩
  | .hbm, ⟨52, _⟩ => ⟨S8x32x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8x32x32x32, .f32⟩
  | .hbm, ⟨58, _⟩ => ⟨S8x32x32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x32x32x32, .f32⟩
  | .hbm, ⟨67, _⟩ => ⟨S8x32x32x32, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8x32x32x32, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Proof.Vq.Math.lean ====
module

public import Idealize.ShloMosaic.PureOps.Ideal

/-! The first place at which a finite row of extended reals takes its least value. -/

@[expose] public section

namespace Cert.Vq

/-- `k` is the first place where `f` is least: no value lies below `f k`, and every earlier value lies above it. -/
def Least {n : ℕ} (f : Fin n → EReal) (k : Fin n) : Prop := (∀ j, f k ≤ f j) ∧ ∀ j, j < k → f k < f j

/-- There is at most one first place. -/
theorem Least.unique {n : ℕ} {f : Fin n → EReal} {a b : Fin n} (ha : Least f a) (hb : Least f b) : a = b := by
  rcases lt_trichotomy a b with h | h | h
  · exact absurd (hb.2 a h) (not_lt.2 (ha.1 b))
  · exact h
  · exact absurd (ha.2 b h) (not_lt.2 (hb.1 a))

/-- A row that is not empty has a first place. -/
theorem exists_least {n : ℕ} (hn : 0 < n) (f : Fin n → EReal) : ∃ k, Least f k := by
  classical
  have hne : (Finset.univ : Finset (Fin n)).Nonempty := ⟨⟨0, hn⟩, Finset.mem_univ _⟩
  obtain ⟨m, -, hm⟩ := Finset.exists_min_image Finset.univ f hne
  have hs : (Finset.univ.filter fun k : Fin n => ∀ j, f k ≤ f j).Nonempty :=
    ⟨m, Finset.mem_filter.2 ⟨Finset.mem_univ _, fun j => hm j (Finset.mem_univ _)⟩⟩
  refine ⟨Finset.min' _ hs, (Finset.mem_filter.1 (Finset.min'_mem _ hs)).2, fun j hj => ?_⟩
  by_contra hle
  have hj' : j ∈ Finset.univ.filter fun k : Fin n => ∀ j, f k ≤ f j :=
    Finset.mem_filter.2 ⟨Finset.mem_univ _, fun i =>
      (not_lt.1 hle).trans ((Finset.mem_filter.1 (Finset.min'_mem _ hs)).2 i)⟩
  exact absurd (Finset.min'_le _ j hj') (not_le.2 hj)

/-- The first place of a row of 8192 values. -/
noncomputable def first (f : Fin 8192 → EReal) : Fin 8192 := (exists_least (by decide) f).choose

/-- It is the first place. -/
theorem first_least (f : Fin 8192 → EReal) : Least f (first f) := (exists_least (by decide) f).choose_spec

/-- Whatever is the first place is the chosen one. -/
theorem Least.eq_first {f : Fin 8192 → EReal} {k : Fin 8192} (h : Least f k) : k = first f := h.unique (first_least f)

/-- A pair of a value and a signed number is no later than another: its value is lower, or equal with a number no greater. -/
def Le (p q : EReal × BitVec 32) : Prop := p.1 < q.1 ∨ p.1 = q.1 ∧ p.2.toInt ≤ q.2.toInt

theorem Le.refl (p : EReal × BitVec 32) : Le p p := Or.inr ⟨rfl, le_rfl⟩

theorem Le.trans {p q r : EReal × BitVec 32} (h : Le p q) (k : Le q r) : Le p r := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- A fold whose step keeps the earlier of two pairs ends at a pair it has met, the earliest of them. -/
theorem foldl_earliest (g : EReal × BitVec 32 → EReal × BitVec 32 → EReal × BitVec 32)
    (hmem : ∀ a b, g a b = a ∨ g a b = b) (hl : ∀ a b, Le (g a b) a) (hr : ∀ a b, Le (g a b) b)
    (L : List (EReal × BitVec 32)) (a : EReal × BitVec 32) :
    (L.foldl g a = a ∨ L.foldl g a ∈ L) ∧ Le (L.foldl g a) a ∧ ∀ q ∈ L, Le (L.foldl g a) q := by
  induction L generalizing a with
  | nil => exact ⟨Or.inl rfl, Le.refl _, fun q hq => nomatch hq⟩
  | cons b L ih =>
    obtain ⟨h1, h2, h3⟩ := ih (g a b)
    refine ⟨?_, h2.trans (hl a b), fun q hq => ?_⟩
    · rw [List.foldl_cons]
      rcases h1 with h1 | h1
      · rw [h1]
        rcases hmem a b with h | h
        · exact Or.inl h
        · exact Or.inr (by rw [h]; exact List.mem_cons_self)
      · exact Or.inr (List.mem_cons_of_mem _ h1)
    · rcases List.mem_cons.1 hq with h | h
      · rw [h]; exact h2.trans (hr a b)
      · exact h3 q h

/-- The signed reading of a number below 8192. -/
theorem toInt_num (k : Fin 8192) : (BitVec.ofNat 32 k.val).toInt = (k.val : ℤ) := by
  have := k.isLt
  rw [BitVec.toInt_eq_toNat_cond, BitVec.toNat_ofNat]
  omega

/-- Of the numbered values of a row, the earliest pair met from the greatest value numbered 0 has the first place's number. -/
theorem num_of_earliest (f : Fin 8192 → EReal) (p : EReal × BitVec 32)
    (h1 : p = (⊤, 0#32) ∨ ∃ k, p = (f k, BitVec.ofNat 32 k.val))
    (h3 : ∀ j, Le p (f j, BitVec.ofNat 32 j.val)) : p.2 = BitVec.ofNat 32 (first f).val := by
  have key : ∃ k : Fin 8192, p = (f k, BitVec.ofNat 32 k.val) := by
    rcases h1 with h | h
    · refine ⟨0, ?_⟩
      have := h3 0
      rw [h] at this ⊢
      rcases this with h' | ⟨h', -⟩
      · exact absurd h' not_top_lt
      · exact Prod.ext h' rfl
    · exact h
  obtain ⟨k, rfl⟩ := key
  have hk : Least f k := by
    refine ⟨fun j => ?_, fun j hj => ?_⟩
    · rcases h3 j with h | ⟨h, -⟩
      · exact le_of_lt h
      · exact le_of_eq h
    · rcases h3 j with h | ⟨-, h⟩
      · exact h
      · have h' : (k.val : ℤ) ≤ j.val := by simpa only [toInt_num] using h
        have : k.val ≤ j.val := by exact_mod_cast h'
        exact absurd hj (not_lt.2 this)
  rw [hk.eq_first]

end Cert.Vq

end
-- ==== Proof.Vq.Spec.lean ====
module

public import proofs.«01_k».proof.Proof.Vq.Math

/-! Vector quantization written over the rows and the table of codes alone: the distances, the nearest code, the
one-hot row, the quantized row, the loss and the perplexity. -/

@[expose] public section

noncomputable section

namespace Cert.Vq

open Idealize.ShloMosaic

/-- The factor two as both programs spell it. -/
def two : EReal := Ideal.ofBits .f32 0x40000000#32

/-- The squared distance of a row to code `k`, expanded. -/
def sqDist (z : Fin 32 → EReal) (e : Fin 8192 → Fin 32 → EReal) (k : Fin 8192) : EReal :=
  (∑ d, z d * z d + ∑ d, e k d * e k d) - two * ∑ d, z d * e k d

/-- The nearest code of a row, the first one among equals. -/
def code (z : Fin 32 → EReal) (e : Fin 8192 → Fin 32 → EReal) : Fin 8192 := first (sqDist z e)

/-- The one-hot row. -/
def hot (z : Fin 32 → EReal) (e : Fin 8192 → Fin 32 → EReal) (k : Fin 8192) : EReal :=
  if k = code z e then 1 else 0

/-- The quantized row: the one-hot row times the table. -/
def quant (z : Fin 32 → EReal) (e : Fin 8192 → Fin 32 → EReal) (d : Fin 32) : EReal := ∑ k, hot z e k * e k d

/-- The straight-through row: the row plus its difference to the quantized row. -/
def pass (z : Fin 32 → EReal) (e : Fin 8192 → Fin 32 → EReal) (d : Fin 32) : EReal := z d + (quant z e d - z d)

/-- The number of the row at image `a`, line `b`, column `c`. -/
def rowNo (a : Fin 8) (b c : Fin 32) : Fin 8192 := ⟨a.val * 1024 + b.val * 32 + c.val, by omega⟩

/-- The squared error of a row, summed over its channels. -/
def err (z : Fin 32 → EReal) (e : Fin 8192 → Fin 32 → EReal) : EReal :=
  ∑ d, (quant z e d - z d) * (quant z e d - z d)

/-- The loss from the total squared error: the mean plus a quarter of it. -/
def lossOf (s : EReal) : EReal :=
  Ideal.div s (Ideal.ofBits .f32 0x48800000#32)
    + Ideal.ofBits .f32 0x3E800000#32 * Ideal.div s (Ideal.ofBits .f32 0x48800000#32)

/-- The share of the 8192 rows that a count stands for. -/
def share (v : EReal) : EReal := Ideal.div v (Ideal.ofBits .f32 0x46000000#32)

/-- The perplexity from the number of times each code is used. -/
def perpOf (v : Fin 8192 → EReal) : EReal :=
  Ideal.exp (-∑ k, share (v k) * Ideal.log (share (v k) + Ideal.ofBits .f32 0x2EDBE6FF#32))

/-- The share as a product with the reciprocal. -/
theorem share_eq (v : EReal) : v * Ideal.ofBits .f32 0x39000000#32 = share v := by
  have h1 : Ideal.ofBits .f32 0x46000000#32 = ((8192 : ℝ) : EReal) := by
    simp [Ideal.ofBits, Ideal.ieee, -EReal.coe_mul]; norm_num
  have h2 : Ideal.ofBits .f32 0x39000000#32 = ((1 / 8192 : ℝ) : EReal) := by
    simp [Ideal.ofBits, Ideal.ieee, -EReal.coe_mul]; norm_num
  rw [share, h1, h2, Ideal.div_coe (by norm_num)]

end Cert.Vq

end
-- ==== Proof.Vq.Half.lean ====
module

public import proofs.«01_k».proof.Proof.Vq.Math
public import Idealize.ShloMosaic.PureOps.Reduce
public import Idealize.ShloMosaic.Lib.SortNet.Extract

/-! The search for the first least value of a row of 8192 in two halves of 4096: the least value of each half, the
half that holds the lesser one (the first half among equals), the first place of that half where it is met. -/

@[expose] public section

noncomputable section

namespace Cert.Vq

open Idealize.ShloMosaic

/-- The minimum of a row, folded from the greatest value, is its value at the first place. -/
theorem fold_min_eq {n : ℕ} {g : Fin n → EReal} {k : Fin n} (h : Least g k) : Finset.univ.fold min ⊤ g = g k := by
  refine le_antisymm ?_ ?_
  · exact (Finset.fold_min_le (g k)).2 (Or.inr ⟨k, Finset.mem_univ _, le_rfl⟩)
  · exact (Finset.le_fold_min (g k)).2 ⟨le_top, fun x _ => h.1 x⟩

/-- The signed minimum of a family of words is the word met in it below which no other lies. -/
theorem fold_minsi_eq {n : ℕ} (f : Fin n → BitVec 32) (b v : BitVec 32) (hb : v.toInt ≤ b.toInt)
    (hf : ∀ x, v.toInt ≤ (f x).toInt) (k : Fin n) (hk : f k = v) :
    Finset.univ.fold IntOp.minsi b f = v := by
  refine BitVec.eq_of_toInt_eq (le_antisymm ?_ ?_)
  · have h := Finset.fold_op_rel_iff_or (op := IntOp.minsi (w := 32)) (r := fun x y => y.toInt ≤ x.toInt)
      (fun {x y z} => by rw [SortNet.toInt_minsi]; exact min_le_iff) (b := b) (f := f) (s := Finset.univ) (c := v)
    exact h.2 (Or.inr ⟨k, Finset.mem_univ _, by rw [hk]⟩)
  · have h := Finset.fold_op_rel_iff_and (op := IntOp.minsi (w := 32)) (r := fun x y => x.toInt ≤ y.toInt)
      (fun {x y z} => by rw [SortNet.toInt_minsi]; exact le_min_iff) (b := b) (f := f) (s := Finset.univ) (c := v)
    exact h.2 ⟨hb, fun x _ => hf x⟩

/-- The least number at which a half row has its minimum is its first place. -/
theorem fold_num_eq {g : Fin 4096 → EReal} {k : Fin 4096} (h : Least g k) :
    Finset.univ.fold IntOp.minsi 2147483647#32 (fun l : Fin 4096 => if g l = g k then BitVec.ofNat 32 l.val else 8192#32)
      = BitVec.ofNat 32 k.val := by
  have num : ∀ l : Fin 4096, (BitVec.ofNat 32 l.val).toInt = (l.val : ℤ) := fun l =>
    toInt_num ⟨l.val, by omega⟩
  refine fold_minsi_eq _ _ _ ?_ (fun l => ?_) k (if_pos rfl)
  · rw [num, show (2147483647#32).toInt = 2147483647 from by decide]
    have := k.isLt
    omega
  · split
    · next e =>
      rw [num, num]
      have : ¬ l < k := fun hl => absurd (h.2 l hl) (by rw [e]; exact lt_irrefl _)
      have : k.val ≤ l.val := not_lt.1 this
      exact_mod_cast this
    · rw [num, show (8192#32).toInt = 8192 from by decide]
      have := k.isLt
      omega

/-- The first half of a row. -/
def lo (f : Fin 8192 → EReal) (l : Fin 4096) : EReal := f ⟨l.val, by omega⟩

/-- The second half of a row. -/
def hi (f : Fin 8192 → EReal) (l : Fin 4096) : EReal := f ⟨4096 + l.val, by omega⟩

/-- When the first half's minimum is no greater, the row's first place is the first half's. -/
theorem least_lo {f : Fin 8192 → EReal} {a b : Fin 4096} (ha : Least (lo f) a) (hb : Least (hi f) b)
    (h : ¬ hi f b < lo f a) : Least f ⟨a.val, by omega⟩ := by
  refine ⟨fun j => ?_, fun j hj => ?_⟩
  · by_cases hj : j.val < 4096
    · exact ha.1 ⟨j.val, hj⟩
    · have e : j = ⟨4096 + (⟨j.val - 4096, by omega⟩ : Fin 4096).val, by omega⟩ := Fin.ext (by simp only; omega)
      rw [e]
      exact (not_lt.1 h).trans (hb.1 ⟨j.val - 4096, by omega⟩)
  · have hj' : j.val < a.val := hj
    exact ha.2 ⟨j.val, by omega⟩ hj'

/-- When the second half's minimum is less, the row's first place is the second half's. -/
theorem least_hi {f : Fin 8192 → EReal} {a b : Fin 4096} (ha : Least (lo f) a) (hb : Least (hi f) b)
    (h : hi f b < lo f a) : Least f ⟨4096 + b.val, by omega⟩ := by
  have low : ∀ j : Fin 8192, j.val < 4096 → f ⟨4096 + b.val, by omega⟩ < f j := fun j hj =>
    lt_of_lt_of_le h (ha.1 ⟨j.val, hj⟩)
  refine ⟨fun j => ?_, fun j hj => ?_⟩
  · by_cases hj : j.val < 4096
    · exact (low j hj).le
    · have e : j = ⟨4096 + (⟨j.val - 4096, by omega⟩ : Fin 4096).val, by omega⟩ := Fin.ext (by simp only; omega)
      rw [e]
      exact hb.1 ⟨j.val - 4096, by omega⟩
  · have hj' : j.val < 4096 + b.val := hj
    by_cases hj4 : j.val < 4096
    · exact low j hj4
    · have e : j = ⟨4096 + (⟨j.val - 4096, by omega⟩ : Fin 4096).val, by omega⟩ := Fin.ext (by simp only; omega)
      rw [e]
      exact hb.2 ⟨j.val - 4096, by omega⟩ (by show j.val - 4096 < b.val; omega)

/-- The two-half search ends at the number of the row's first place. -/
theorem two_halves (f : Fin 8192 → EReal) (A B : EReal) (hA : A = Finset.univ.fold min ⊤ (lo f))
    (hB : B = Finset.univ.fold min ⊤ (hi f)) :
    IntOp.addi (Finset.univ.fold IntOp.minsi 2147483647#32 (fun l : Fin 4096 =>
        if (if B < A then hi f l else lo f l) = (if B < A then B else A) then BitVec.ofNat 32 l.val else 8192#32))
      (if B < A then 4096#32 else 0#32) = BitVec.ofNat 32 (first f).val := by
  obtain ⟨a, ha⟩ := exists_least (by decide) (lo f)
  obtain ⟨b, hb⟩ := exists_least (by decide) (hi f)
  rw [fold_min_eq ha] at hA
  rw [fold_min_eq hb] at hB
  subst hA hB
  by_cases h : hi f b < lo f a
  · simp only [if_pos h]
    rw [fold_num_eq hb, ← (least_hi ha hb h).eq_first]
    have := b.isLt
    refine BitVec.eq_of_toNat_eq ?_
    simp only [IntOp.addi, BitVec.toNat_add, BitVec.toNat_ofNat]
    omega
  · simp only [if_neg h]
    rw [fold_num_eq ha, ← (least_lo ha hb h).eq_first]
    exact BitVec.add_zero _

end Cert.Vq

end
-- ==== Proof.Vq.Block.lean ====
module

public import proofs.«01_k».proof.Defs
public import proofs.«01_k».proof.Proof.Gen.KernelIdeal.Skeleton
public import proofs.«01_k».proof.Proof.Vq.Spec
public import proofs.«01_k».proof.Proof.Vq.Half
public import Idealize.ShloMosaic.Lib.Pointwise
public import Idealize.ShloMosaic.PureOps.Ideal.Laws

/-! What the kernel computes on one block of 128 rows, read at an index, over the rows of the block and the table. -/

@[expose] public section

set_option maxRecDepth 16384

noncomputable section

namespace Cert.KernelIdeal.Vq

open Idealize.ShloMosaic Cert.KernelIdeal Cert.KernelIdeal.Gen
open Cert.Vq

/-- An f32 array of the given shape. -/
abbrev Arr (S : Shape) := FVec Ideal S .f32
/-- An i32 array of the given shape. -/
abbrev ArrI (S : Shape) := IVec S 32

/-- A row of a block. -/
def brow (z : Arr S128x32) (p : Fin 128) (d : Fin 32) : EReal := z (ix2 p d)

/-- The table of codes. -/
def tab (e : Arr S8192x32) (k : Fin 8192) (d : Fin 32) : EReal := e (ix2 k d)

/-! ### The operations of the search at an index, on variables -/

/-- A comparison against a value rounded there and back is the comparison against the value. -/
theorem less_at (x y : Arr S128x1) (i : S128x1.Idx) :
    cmpf .olt x (extf .f32 (truncf .bf16 y bitsLt_bf16_f32) bitsLt_bf16_f32) i
      = FloatOps.cmpf (F := Ideal) (φ := .f32) .olt (x i) (y i) := rfl

/-- A choice by that comparison. -/
theorem select_less (x y : EReal) {α : Type} (a b : α) :
    Scalar.select (FloatOps.cmpf (F := Ideal) (φ := .f32) .olt x y) a b = if x < y then a else b := by
  simp only [Ideal.cmpf_def, Ideal.cmp]
  by_cases h : x < y <;> simp [h, Scalar.select]

/-- The search inside the chosen half. -/
theorem search_at (q : IVec S128x1 1) (x y : Arr S128x1) (u v : Arr S128x4096) (p : Fin 128) :
    multiReductionI .minsi [1] S128 (select (cmpf .oeq
        (select (broadcastTo S128x4096 (shapeCast S128x1 q shapeCasts_S128x1_S128x1) broadcasts_S128x1_S128x4096) u v)
        (broadcastTo S128x4096 (select q x y) broadcasts_S128x1_S128x4096))
      (iota .tc S128x4096 32 [1] iota_S128x4096_d1_w32) (broadcast S128x4096 8192#32)) 2147483647#32
      reduces_S128x4096_S128 rfl (ix1 p)
    = Finset.univ.fold IntOp.minsi 2147483647#32 fun l : Fin 4096 =>
        if Scalar.select (q (ix2 p 0)) (u (ix2 p l)) (v (ix2 p l)) = Scalar.select (q (ix2 p 0)) (x (ix2 p 0)) (y (ix2 p 0))
        then BitVec.ofNat 32 l.val else 8192#32 := by
  pointwise []

/-! ### The payloads at an index -/

variable (z : Arr S128x32) (e : Arr S8192x32)

/-- The squared lengths of the codes. -/
theorem len_at (k : Fin 8192) : k0_pay4 (F := Ideal) e (ix2 0 k) = ∑ d, tab e k d * tab e k d := by
  pointwise [k0_pay4, tab]

/-- The distances. -/
theorem dist_at (p : Fin 128) (k : Fin 8192) :
    k0_pay5 (F := Ideal) z e (k0_pay4 (F := Ideal) e) (ix2 p k) = sqDist (brow z p) (tab e) k := by
  pointwise [k0_pay5, k0_pay3]
  rw [len_at]
  rfl

/-- The greatest value, from which the minima start. -/
theorem inf_eq : Ideal.ofBits .f32 0x7F800000#32 = ⊤ := by
  simp [Ideal.ofBits, Ideal.ieee]

/-- The minimum over the first half. -/
theorem min_lo (p : Fin 128) : k0_pay8 (F := Ideal) z e (k0_pay4 (F := Ideal) e) (ix2 p 0)
    = Finset.univ.fold min ⊤ (lo (sqDist (brow z p) (tab e))) := by
  pointwise [k0_pay8, k0_pay6]
  rw [inf_eq]
  refine congrArg (fun g => Finset.fold min ⊤ g Finset.univ) (funext fun l => ?_)
  exact dist_at z e p _

/-- The minimum over the second half. -/
theorem min_hi (p : Fin 128) : k0_pay9 (F := Ideal) z e (k0_pay4 (F := Ideal) e) (ix2 p 0)
    = Finset.univ.fold min ⊤ (hi (sqDist (brow z p) (tab e))) := by
  pointwise [k0_pay9, k0_pay7]
  rw [inf_eq]
  refine congrArg (fun g => Finset.fold min ⊤ g Finset.univ) (funext fun l => ?_)
  exact dist_at z e p _

/-- The distances in the first half. -/
theorem half_lo (p : Fin 128) (l : Fin 4096) :
    k0_pay6 (F := Ideal) z e (k0_pay4 (F := Ideal) e) (ix2 p l) = lo (sqDist (brow z p) (tab e)) l := by
  pointwise [k0_pay6]
  exact dist_at z e p _

/-- The distances in the second half. -/
theorem half_hi (p : Fin 128) (l : Fin 4096) :
    k0_pay7 (F := Ideal) z e (k0_pay4 (F := Ideal) e) (ix2 p l) = hi (sqDist (brow z p) (tab e)) l := by
  pointwise [k0_pay7]
  exact dist_at z e p _

/-- Whether the second half's minimum is less. -/
theorem flag_eq (b : Arr S1x8192) : k0_pay10 (F := Ideal) z e b
    = cmpf .olt (k0_pay9 (F := Ideal) z e b)
        (extf .f32 (truncf .bf16 (k0_pay8 (F := Ideal) z e b) bitsLt_bf16_f32) bitsLt_bf16_f32) := by
  unfold k0_pay10
  with_reducible rfl

/-- A choice by that flag. -/
theorem flag_at (p : Fin 128) {α : Type} (a b : α) :
    Scalar.select (k0_pay10 (F := Ideal) z e (k0_pay4 (F := Ideal) e) (ix2 p 0)) a b
      = if Finset.univ.fold min ⊤ (hi (sqDist (brow z p) (tab e))) < Finset.univ.fold min ⊤ (lo (sqDist (brow z p) (tab e)))
        then a else b := by
  rw [flag_eq, less_at, select_less, min_lo, min_hi]

/-- The number inside the chosen half. -/
theorem inner_at (p : Fin 128) : k0_pay11 (F := Ideal) z e (k0_pay4 (F := Ideal) e) (ix1 p)
    = Finset.univ.fold IntOp.minsi 2147483647#32 fun l : Fin 4096 =>
        if (if Finset.univ.fold min ⊤ (hi (sqDist (brow z p) (tab e))) < Finset.univ.fold min ⊤ (lo (sqDist (brow z p) (tab e)))
              then hi (sqDist (brow z p) (tab e)) l else lo (sqDist (brow z p) (tab e)) l)
            = (if Finset.univ.fold min ⊤ (hi (sqDist (brow z p) (tab e))) < Finset.univ.fold min ⊤ (lo (sqDist (brow z p) (tab e)))
              then Finset.univ.fold min ⊤ (hi (sqDist (brow z p) (tab e))) else Finset.univ.fold min ⊤ (lo (sqDist (brow z p) (tab e))))
          then BitVec.ofNat 32 l.val else 8192#32 := by
  unfold k0_pay11
  refine (search_at _ _ _ _ _ p).trans ?_
  refine congrArg (fun g => Finset.fold IntOp.minsi 2147483647#32 g Finset.univ) (funext fun l => ?_)
  rw [flag_at, flag_at, half_lo, half_hi, min_lo, min_hi]

/-- The nearest code of every row of the block. -/
theorem code_at (p : Fin 128) :
    k0_pay15 (k0_pay11 (F := Ideal) z e (k0_pay4 (F := Ideal) e)) (k0_pay12 (F := Ideal) z e (k0_pay4 (F := Ideal) e))
      k0_pay13 k0_pay14 (ix1 p) = BitVec.ofNat 32 (code (brow z p) (tab e)).val := by
  have h12 : k0_pay12 (F := Ideal) z e (k0_pay4 (F := Ideal) e) (ix1 p)
      = k0_pay10 (F := Ideal) z e (k0_pay4 (F := Ideal) e) (ix2 p 0) := by
    unfold k0_pay12
    pointwise []
  pointwise [k0_pay15, k0_pay13, k0_pay14]
  rw [h12, flag_at, inner_at]
  exact two_halves (sqDist (brow z p) (tab e)) _ _ rfl rfl

end Cert.KernelIdeal.Vq

end
-- ==== Proof.Vq.BlockRes.lean ====
module

public import proofs.«01_k».proof.Proof.Vq.Block

/-! What the kernel stores and accumulates for one block of 128 rows. -/

@[expose] public section

set_option maxRecDepth 16384

noncomputable section

namespace Cert.KernelIdeal.Vq

open Idealize.ShloMosaic Cert.KernelIdeal Cert.KernelIdeal.Gen
open Cert.Vq

variable (z : Arr S128x32) (e : Arr S8192x32)

/-- The numbers found inside the chosen halves. -/
abbrev inner : ArrI S128 := k0_pay11 (F := Ideal) z e (k0_pay4 (F := Ideal) e)

/-- The chosen halves. -/
abbrev half : IVec S128 1 := k0_pay12 (F := Ideal) z e (k0_pay4 (F := Ideal) e)

/-- Two code numbers are the same word exactly when they are the same number. -/
theorem same_num (k l : Fin 8192) {α : Type} (a b : α) :
    Scalar.select (IntOp.cmpi .eq (BitVec.ofNat 32 k.val) (BitVec.ofNat 32 l.val)) a b = if k = l then a else b := by
  have h : (BitVec.ofNat 32 k.val = BitVec.ofNat 32 l.val) ↔ k = l := by
    constructor
    · intro h
      have := congrArg BitVec.toInt h
      rw [toInt_num, toInt_num] at this
      exact Fin.ext (by exact_mod_cast this)
    · rintro rfl; rfl
  by_cases hk : k = l
  · simp [IntOp.cmpi, Scalar.select, hk]
  · have hne : (BitVec.ofNat 32 k.val == BitVec.ofNat 32 l.val) = false := by
      rw [beq_eq_false_iff_ne]
      exact fun e => hk (h.mp e)
    simp only [IntOp.cmpi, Scalar.select, hne, if_neg hk]
    rfl

/-- The one-hot rows. -/
theorem hot_at (p : Fin 128) (k : Fin 8192) :
    k0_pay16 (F := Ideal) (inner z e) (half z e) k0_pay13 k0_pay14 (ix2 p k) = hot (brow z p) (tab e) k := by
  have h : ∀ (a : ArrI S128) (b : IVec S128 1), k0_pay16 (F := Ideal) a b k0_pay13 k0_pay14 (ix2 p k)
      = Scalar.select (IntOp.cmpi .eq (BitVec.ofNat 32 k.val) (k0_pay15 a b k0_pay13 k0_pay14 (ix1 p))) 1 0 := by
    intro a b
    pointwise [k0_pay16]
  rw [h, code_at, same_num]
  rfl

/-- The nearest codes. -/
theorem quant_at (p : Fin 128) (d : Fin 32) :
    k0_pay17 (F := Ideal) e (inner z e) (half z e) k0_pay13 k0_pay14 (ix2 p d) = quant (brow z p) (tab e) d := by
  have h : ∀ (a : ArrI S128) (b : IVec S128 1), k0_pay17 (F := Ideal) e a b k0_pay13 k0_pay14 (ix2 p d)
      = ∑ k : Fin 8192, k0_pay16 (F := Ideal) a b k0_pay13 k0_pay14 (ix2 p k) * e (ix2 k d) := by
    intro a b
    pointwise [k0_pay17]
  rw [h]
  exact Finset.sum_congr rfl fun k _ => by rw [hot_at]; rfl

/-- The rows handed over again. -/
theorem same_rows : k0_pay3 (F := Ideal) z = z := by
  funext i
  idx_vars i
  pointwise [k0_pay3]

/-- The rows passed on. -/
theorem pass_at (p : Fin 128) (d : Fin 32) :
    k0_pay18 (F := Ideal) (k0_pay3 (F := Ideal) z) e (inner z e) (half z e) k0_pay13 k0_pay14 (ix2 p d)
      = pass (brow z p) (tab e) d := by
  have h : ∀ (w : Arr S128x32) (a : ArrI S128) (b : IVec S128 1), k0_pay18 (F := Ideal) w e a b k0_pay13 k0_pay14 (ix2 p d)
      = w (ix2 p d) + (k0_pay17 (F := Ideal) e a b k0_pay13 k0_pay14 (ix2 p d) - w (ix2 p d)) := by
    intro w a b
    pointwise [k0_pay18]
  rw [h, quant_at, same_rows]
  rfl

/-- The errors of the block are added to what is there. -/
theorem errs_at (v : EReal) :
    k0_pay20 (F := Ideal) (k0_pay3 (F := Ideal) z) e (inner z e) (half z e) k0_pay13 k0_pay14 v
      = v + ∑ p : Fin 128, err (brow z p) (tab e) := by
  have h : ∀ (w : Arr S128x32) (a : ArrI S128) (b : IVec S128 1), k0_pay20 (F := Ideal) w e a b k0_pay13 k0_pay14 v
      = v + ∑ p : Fin 128, ∑ d : Fin 32,
          (k0_pay17 (F := Ideal) e a b k0_pay13 k0_pay14 (ix2 p d) - w (ix2 p d))
            * (k0_pay17 (F := Ideal) e a b k0_pay13 k0_pay14 (ix2 p d) - w (ix2 p d)) := by
    intro w a b
    pointwise [k0_pay20]
  rw [h, same_rows]
  refine congrArg (v + ·) (Finset.sum_congr rfl fun p _ => Finset.sum_congr rfl fun d _ => ?_)
  rw [quant_at]
  rfl

/-- The counts of the block are added to what is there. -/
theorem counts_at (v : Arr S1x8192) (k : Fin 8192) :
    k0_pay21 (F := Ideal) (inner z e) (half z e) k0_pay13 k0_pay14 v (ix2 0 k)
      = v (ix2 0 k) + ∑ p : Fin 128, hot (brow z p) (tab e) k := by
  have h : ∀ (a : ArrI S128) (b : IVec S128 1), k0_pay21 (F := Ideal) a b k0_pay13 k0_pay14 v (ix2 0 k)
      = v (ix2 0 k) + ∑ p : Fin 128, k0_pay16 (F := Ideal) a b k0_pay13 k0_pay14 (ix2 p k) := by
    intro a b
    pointwise [k0_pay21]
  rw [h]
  exact congrArg (v (ix2 0 k) + ·) (Finset.sum_congr rfl fun p _ => hot_at z e p k)

/-- The counts start at zero. -/
theorem zeros_at (k : Fin 8192) : k0_pay19 (F := Ideal) (ix2 0 k) = 0 := by
  pointwise [k0_pay19]

/-- The loss of the accumulated error. -/
theorem loss_at (v : EReal) (j : S1x1.Idx) : k0_pay1 (F := Ideal) v j = lossOf v := by
  idx_vars j
  pointwise [k0_pay1, lossOf]

/-- The perplexity of the accumulated counts. -/
theorem perp_at (v : Arr S1x8192) (j : S1x1.Idx) : k0_pay2 (F := Ideal) v j = perpOf fun k => v (ix2 0 k) := by
  idx_vars j
  pointwise [k0_pay2]
  simp only [share_eq, zero_sub, Finset.univ_unique, Finset.sum_singleton]
  rfl

end Cert.KernelIdeal.Vq

end
-- ==== Proof.Vq.Outs.lean ====
module

public import proofs.«01_k».proof.Proof.Vq.BlockRes
public import proofs.«01_k».proof.Proof.Gen.KernelIdeal.Frame
public import Idealize.ShloMosaic.Lib.Pipeline.ValueKit
public import Idealize.ShloMosaic.Lib.Pipeline.ReadBack
public import Idealize.ShloMosaic.Lib.Claim

/-! What the kernel's buffers hold after each grid point: the block's results, and the error and the counts accumulated so far. -/

@[expose] public section

set_option maxRecDepth 16384

noncomputable section

namespace Cert.KernelIdeal.Vq

open Idealize.ShloMosaic Idealize.SL.Sem Cert.KernelIdeal Cert.KernelIdeal.Gen
open Cert.Vq

variable (m : (ℓ : Loc nD τ sig) → Buf (Elt Ideal) ℓ)

/-- The block of every window at every point. -/
theorem idx : ∀ t : Fin cfg0.N, win0_0.index t = ![t.val, 0] ∧ win0_1.index t = ![0, 0] ∧ win0_2.index t = ![t.val, 0]
    ∧ win0_3.index t = ![t.val] ∧ win0_4.index t = ![t.val, 0] ∧ win0_5.index t = ![0, 0] ∧ win0_6.index t = ![0, 0] :=
  (by decide +kernel : ∀ t : Fin grid0.N, _)

/-- The table argument. -/
abbrev table (c : Dev nD) : Arr S8192x32 := m ((c.tc : Thread nD τ).loc main_arg1)

/-- The rows of a point's block. -/
abbrev rows (c : Dev nD) (t : Fin cfg0.N) : Arr S128x32 := iblk m c 0 t

/-- The table window holds the whole table. -/
theorem table_blk (c : Dev nD) (t : Fin cfg0.N) : iblk m c 1 t = table m c := by
  blk_ext! [iblk, V, idx t]

/-- The squared lengths of the codes are computed at the first point. -/
theorem lens_first (c : Dev nD) (t : Fin cfg0.N) (h0 : t.val % 64 = 0) :
    (outsAt0 m c t.val t.isLt).2.2.2.2.2.2.2 = k0_pay4 (F := Ideal) (table m c) := by
  rw [outsAt0_A m c t h0 h0 (by omega)]
  frame_out
  rw [table_blk]

/-- They are kept at the later points. -/
theorem lens_later (c : Dev nD) (t : Fin cfg0.N) (h0 : ¬t.val % 64 = 0) :
    (outsAt0 m c t.val t.isLt).2.2.2.2.2.2.2
      = (outsAt0 m c (t.val - 1) (Nat.lt_of_le_of_lt (Nat.sub_le _ _) t.isLt)).2.2.2.2.2.2.2 := by
  by_cases h2 : t.val % 64 = 63
  · rw [outsAt0_C m c t h0 h0 h2]
    dsimp only [sout0_C_2]
  · rw [outsAt0_B m c t h0 h0 h2]
    dsimp only [sout0_B_2]

/-- The squared lengths of the codes are there at every point. -/
theorem lens_eq (c : Dev nD) (n : ℕ) (hn : n < cfg0.N) :
    (outsAt0 m c n hn).2.2.2.2.2.2.2 = k0_pay4 (F := Ideal) (table m c) := by
  induction n with
  | zero => exact lens_first m c ⟨0, hn⟩ rfl
  | succ n ih =>
    have hN : n + 1 < 64 := lt_of_lt_of_eq hn (show cfg0.N = 64 from N_0)
    exact (lens_later m c ⟨n + 1, hn⟩ (by dsimp only; omega)).trans (ih _)

/-- The one-hot rows written at a point. -/
theorem hot_out (c : Dev nD) (t : Fin cfg0.N) : (outsAt0 m c t.val t.isLt).1
    = k0_pay16 (F := Ideal) (inner (rows m c t) (table m c)) (half (rows m c t) (table m c)) k0_pay13 k0_pay14 := by
  by_cases h0 : t.val % 64 = 0
  · rw [outsAt0_A m c t h0 h0 (by omega)]
    frame_out
    rw [table_blk]
  · by_cases h2 : t.val % 64 = 63
    · rw [outsAt0_C m c t h0 h0 h2]
      frame_out
      simp only [read_unread_whole]
      rw [lens_eq, table_blk]
    · rw [outsAt0_B m c t h0 h0 h2]
      frame_out
      simp only [read_unread_whole]
      rw [lens_eq, table_blk]

/-- The code numbers written at a point. -/
theorem code_out (c : Dev nD) (t : Fin cfg0.N) : (outsAt0 m c t.val t.isLt).2.1
    = k0_pay15 (inner (rows m c t) (table m c)) (half (rows m c t) (table m c)) k0_pay13 k0_pay14 := by
  by_cases h0 : t.val % 64 = 0
  · rw [outsAt0_A m c t h0 h0 (by omega)]
    frame_out
    rw [table_blk]
  · by_cases h2 : t.val % 64 = 63
    · rw [outsAt0_C m c t h0 h0 h2]
      frame_out
      simp only [read_unread_whole]
      rw [lens_eq, table_blk]
    · rw [outsAt0_B m c t h0 h0 h2]
      frame_out
      simp only [read_unread_whole]
      rw [lens_eq, table_blk]

/-- The rows passed on at a point. -/
theorem pass_out (c : Dev nD) (t : Fin cfg0.N) : (outsAt0 m c t.val t.isLt).2.2.1
    = k0_pay18 (F := Ideal) (k0_pay3 (F := Ideal) (rows m c t)) (table m c) (inner (rows m c t) (table m c))
        (half (rows m c t) (table m c)) k0_pay13 k0_pay14 := by
  by_cases h0 : t.val % 64 = 0
  · rw [outsAt0_A m c t h0 h0 (by omega)]
    frame_out
    rw [table_blk]
  · by_cases h2 : t.val % 64 = 63
    · rw [outsAt0_C m c t h0 h0 h2]
      frame_out
      simp only [read_unread_whole]
      rw [lens_eq, table_blk]
    · rw [outsAt0_B m c t h0 h0 h2]
      frame_out
      simp only [read_unread_whole]
      rw [lens_eq, table_blk]

/-- The error of a point's block. -/
def blkErr (c : Dev nD) (t : Fin cfg0.N) : EReal := ∑ p : Fin 128, err (brow (rows m c t) p) (tab (table m c))

/-- The counts of a point's block. -/
def blkCount (c : Dev nD) (t : Fin cfg0.N) (k : Fin 8192) : EReal :=
  ∑ p : Fin 128, hot (brow (rows m c t) p) (tab (table m c)) k

/-- Zero, as the kernel writes it. -/
theorem zero_lit : FloatOps.ofBits (F := Ideal) .f32 0x0#32 = (0 : EReal) := by
  simp [Ideal.ofBits, Ideal.ieee]

/-- The accumulated error after the first point. -/
theorem err_first (c : Dev nD) (t : Fin cfg0.N) (h0 : t.val % 64 = 0) (j : S1.Idx) :
    (outsAt0 m c t.val t.isLt).2.2.2.2.2.1 j = 0 + blkErr m c t := by
  rw [outsAt0_A m c t h0 h0 (by omega)]
  frame_out
  rw [table_blk, errs_at, zero_lit]
  rfl

/-- The accumulated error after a later point. -/
theorem err_later (c : Dev nD) (t : Fin cfg0.N) (h0 : ¬t.val % 64 = 0) (j : S1.Idx) :
    (outsAt0 m c t.val t.isLt).2.2.2.2.2.1 j
      = (outsAt0 m c (t.val - 1) (Nat.lt_of_le_of_lt (Nat.sub_le _ _) t.isLt)).2.2.2.2.2.1 j + blkErr m c t := by
  have hs : ∀ a : Fin S1.rank, S1.size a ≤ 1 := by decide
  have hj : ∀ h, Shape.Idx.first (s := S1) h = j := fun h => by
    funext a
    have h1 : (Shape.Idx.first (s := S1) h a).val < 1 := lt_of_lt_of_le (Fin.isLt _) (hs a)
    have h2 : (j a).val < 1 := lt_of_lt_of_le (Fin.isLt _) (hs a)
    exact Fin.ext (by omega)
  by_cases h2 : t.val % 64 = 63
  · rw [outsAt0_C m c t h0 h0 h2]
    frame_out
    simp only [read_unread_whole, hj]
    rw [lens_eq, table_blk, errs_at]
    rfl
  · rw [outsAt0_B m c t h0 h0 h2]
    frame_out
    simp only [read_unread_whole, hj]
    rw [lens_eq, table_blk, errs_at]
    rfl

/-- The accumulated counts after the first point. -/
theorem count_first (c : Dev nD) (t : Fin cfg0.N) (h0 : t.val % 64 = 0) (k : Fin 8192) :
    (outsAt0 m c t.val t.isLt).2.2.2.2.2.2.1 (ix2 0 k) = 0 + blkCount m c t k := by
  rw [outsAt0_A m c t h0 h0 (by omega)]
  frame_out
  rw [table_blk, counts_at, zeros_at]
  rfl

/-- The accumulated counts after a later point. -/
theorem count_later (c : Dev nD) (t : Fin cfg0.N) (h0 : ¬t.val % 64 = 0) (k : Fin 8192) :
    (outsAt0 m c t.val t.isLt).2.2.2.2.2.2.1 (ix2 0 k)
      = (outsAt0 m c (t.val - 1) (Nat.lt_of_le_of_lt (Nat.sub_le _ _) t.isLt)).2.2.2.2.2.2.1 (ix2 0 k) + blkCount m c t k := by
  by_cases h2 : t.val % 64 = 63
  · rw [outsAt0_C m c t h0 h0 h2]
    frame_out
    simp only [read_unread_whole]
    rw [lens_eq, table_blk, counts_at]
    rfl
  · rw [outsAt0_B m c t h0 h0 h2]
    frame_out
    simp only [read_unread_whole]
    rw [lens_eq, table_blk, counts_at]
    rfl

end Cert.KernelIdeal.Vq

end
-- ==== Proof.Vq.Sums.lean ====
module

public import proofs.«01_k».proof.Proof.Vq.Outs

/-! The loss and the perplexity of the last grid point, over the sums of all points. -/

@[expose] public section

set_option maxRecDepth 16384

noncomputable section

namespace Cert.KernelIdeal.Vq

open Idealize.ShloMosaic Idealize.SL.Sem Cert.KernelIdeal Cert.KernelIdeal.Gen
open Cert.Vq

variable (m : (ℓ : Loc nD τ sig) → Buf (Elt Ideal) ℓ)

/-- The last point. -/
def lastPt : Fin cfg0.N := ⟨63, lt_of_lt_of_eq (by decide) (show 64 = cfg0.N from N_0.symm)⟩

/-- The number of points. -/
theorem count_pts : cfg0.N = 64 := N_0

/-- A point that writes the loss back is the last. -/
theorem last_of (t : Fin cfg0.N) (h : t.val % 64 = 63) : t = lastPt := by
  have ht : t.val < 64 := lt_of_lt_of_eq t.isLt count_pts
  exact Fin.ext (show t.val = 63 by omega)

/-- The last point's place in its run. -/
theorem last_mod : (lastPt : Fin cfg0.N).val % 64 = 63 := by decide

/-- The accumulated error after the last point. -/
theorem err_total (c : Dev nD) (j : S1.Idx) :
    (outsAt0 m c (lastPt : Fin cfg0.N).val (lastPt : Fin cfg0.N).isLt).2.2.2.2.2.1 j = ∑ t : Fin cfg0.N, blkErr m c t := by
  rw [Pipeline.eq_sum_fin_of_reset_step_apply_last (fun n h => (outsAt0 m c n h).2.2.2.2.2.1) 64 (fun _ => 0)
    (fun t _ => blkErr m c t) (fun t h j => err_first m c t h j) (fun t h j => err_later m c t h j)
    (le_of_eq count_pts) lastPt (show 63 + 1 = cfg0.N from N_0.symm) j, zero_add]

/-- The accumulated counts after the last point. -/
theorem count_total (c : Dev nD) (k : Fin 8192) :
    (outsAt0 m c (lastPt : Fin cfg0.N).val (lastPt : Fin cfg0.N).isLt).2.2.2.2.2.2.1 (ix2 0 k)
      = ∑ t : Fin cfg0.N, blkCount m c t k := by
  rw [Pipeline.eq_sum_fin_of_reset_step_apply_last (fun n h (k : Fin 8192) => (outsAt0 m c n h).2.2.2.2.2.2.1 (ix2 0 k)) 64
    (fun _ => 0) (fun t k => blkCount m c t k) (fun t h k => count_first m c t h k) (fun t h k => count_later m c t h k)
    (le_of_eq count_pts) lastPt (show 63 + 1 = cfg0.N from N_0.symm) k, zero_add]

/-- The loss written at the last point is that of the error accumulated there. -/
theorem loss_of_err (c : Dev nD) (t : Fin cfg0.N) (h0 : ¬t.val % 64 = 0) (h2 : t.val % 64 = 63) (j : S1x1.Idx) (i : S1.Idx) :
    (outsAt0 m c t.val t.isLt).2.2.2.1 j = lossOf ((outsAt0 m c t.val t.isLt).2.2.2.2.2.1 i) := by
  rw [outsAt0_C m c t h0 h0 h2]
  frame_out
  rw [loss_at]

/-- The perplexity written at the last point is that of the counts accumulated there. -/
theorem perp_of_count (c : Dev nD) (t : Fin cfg0.N) (h0 : ¬t.val % 64 = 0) (h2 : t.val % 64 = 63) (j : S1x1.Idx) :
    (outsAt0 m c t.val t.isLt).2.2.2.2.1 j = perpOf fun k => (outsAt0 m c t.val t.isLt).2.2.2.2.2.2.1 (ix2 0 k) := by
  rw [outsAt0_C m c t h0 h0 h2]
  frame_out
  rw [perp_at]

/-- The loss written at the last point. -/
theorem loss_out (c : Dev nD) (t : Fin cfg0.N) (h2 : t.val % 64 = 63) (j : S1x1.Idx) :
    (outsAt0 m c t.val t.isLt).2.2.2.1 j = lossOf (∑ s : Fin cfg0.N, blkErr m c s) := by
  rw [loss_of_err m c t (by omega) h2 j (ix1 0)]
  obtain rfl := last_of t h2
  rw [err_total]

/-- The perplexity written at the last point. -/
theorem perp_out (c : Dev nD) (t : Fin cfg0.N) (h2 : t.val % 64 = 63) (j : S1x1.Idx) :
    (outsAt0 m c t.val t.isLt).2.2.2.2.1 j = perpOf fun k => ∑ s : Fin cfg0.N, blkCount m c s k := by
  rw [perp_of_count m c t (by omega) h2 j]
  obtain rfl := last_of t h2
  simp only [count_total]

end Cert.KernelIdeal.Vq

end
-- ==== Proof.Vq.Arrays.lean ====
module

public import proofs.«01_k».proof.Proof.Vq.Sums

/-! What the result arrays hold when the kernel has finished, over the rows of the input and the table. -/

@[expose] public section

set_option maxRecDepth 16384

noncomputable section

namespace Cert.KernelIdeal.Vq

open Idealize.ShloMosaic Idealize.SL.Sem Cert.KernelIdeal Cert.KernelIdeal.Gen
open Idealize.ShloMosaic.Pipeline (Dat)
open Cert.Vq

variable (m : (ℓ : Loc nD τ sig) → Buf (Elt Ideal) ℓ)

/-- The image argument. -/
abbrev image (c : Dev nD) : Arr S8x32x32x32 := m ((c.tc : Thread nD τ).loc main_arg0)

/-- The image as 8192 rows of 32 channels. -/
def flat (x : Arr S8x32x32x32) : Arr S8192x32 :=
  shapeCast S8192x32 (transpose S8x32x32x32 [0, 2, 3, 1] x transposes_S8x32x32x32_S8x32x32x32_0_2_3_1)
    shapeCasts_S8x32x32x32_S8192x32

/-- Row `r` of the image. -/
def frow (x : Arr S8x32x32x32) (r : Fin 8192) (d : Fin 32) : EReal := flat x (ix2 r d)

/-- The operand of the row windows is the image in rows. -/
theorem operand (c : Dev nD) : V m c main_v1 = flat (image m c) := by
  entry_read
  rfl

/-- Row `p` of the block at point `t` is a row of the image. -/
theorem rows_at (c : Dev nD) (t : Fin cfg0.N) (p : Fin 128) (r : Fin 8192) (hr : r.val = t.val * 128 + p.val) :
    brow (rows m c t) p = frow (image m c) r := by
  funext d
  have h : rows m c t (ix2 p d) = V m c main_v1 (ix2 r d) := by
    blk_ext [rows, iblk, idx t]
  show rows m c t (ix2 p d) = flat (image m c) (ix2 r d)
  rw [h, operand]

/-- The one-hot rows of the whole image. -/
def hots (x : Arr S8x32x32x32) (e : Arr S8192x32) : Arr S8192x8192 := fun i => hot (frow x (i 0)) (tab e) (i 1)

/-- The code numbers of the whole image. -/
def codes (x : Arr S8x32x32x32) (e : Arr S8192x32) : ArrI S8192 := fun i => BitVec.ofNat 32 (code (frow x (i 0)) (tab e)).val

/-- The rows passed on of the whole image. -/
def passes (x : Arr S8x32x32x32) (e : Arr S8192x32) : Arr S8192x32 := fun i => pass (frow x (i 0)) (tab e) (i 1)

/-- The one-hot array after the run. -/
theorem hots_end (c : Dev nD) : (dats m 0 c).arrAt 2 (cfgs 0).N = hots (image m c) (table m c) := by
  refine (dats m 0 c).arrAt_eq_of_covers 2 _ (by decide +kernel) fun t _ y => ?_
  blk_simp
  rw [after0_2, hot_out]
  idx_vars y
  have ht : t.val < 64 := lt_of_lt_of_eq t.isLt count_pts
  have he : ((View.whole main_v2_0).slice (win0_2.rect t)).emb (ix2 y0 y1) = ix2 (⟨t.val * 128 + y0.val, by omega⟩ : Fin 8192) y1 := by blk_ext [idx t]
  rw [he, hot_at, rows_at m c t y0 ⟨t.val * 128 + y0.val, by omega⟩ rfl]
  rfl

/-- The code array after the run. -/
theorem codes_end (c : Dev nD) : (dats m 0 c).arrAt 3 (cfgs 0).N = codes (image m c) (table m c) := by
  refine (dats m 0 c).arrAt_eq_of_covers 3 _ (by decide +kernel) fun t _ y => ?_
  blk_simp
  rw [after0_3, code_out]
  idx_vars y
  have ht : t.val < 64 := lt_of_lt_of_eq t.isLt count_pts
  have he : ((View.whole main_v2_1).slice (win0_3.rect t)).emb (ix1 y0) = ix1 (⟨t.val * 128 + y0.val, by omega⟩ : Fin 8192) := by blk_ext [idx t]
  rw [he, code_at, rows_at m c t y0 ⟨t.val * 128 + y0.val, by omega⟩ rfl]
  rfl

/-- The passed rows after the run. -/
theorem passes_end (c : Dev nD) : (dats m 0 c).arrAt 4 (cfgs 0).N = passes (image m c) (table m c) := by
  refine (dats m 0 c).arrAt_eq_of_covers 4 _ (by decide +kernel) fun t _ y => ?_
  blk_simp
  rw [after0_4, pass_out]
  idx_vars y
  have ht : t.val < 64 := lt_of_lt_of_eq t.isLt count_pts
  have he : ((View.whole main_v2_2).slice (win0_4.rect t)).emb (ix2 y0 y1) = ix2 (⟨t.val * 128 + y0.val, by omega⟩ : Fin 8192) y1 := by blk_ext [idx t]
  rw [he, pass_at, rows_at m c t y0 ⟨t.val * 128 + y0.val, by omega⟩ rfl]
  rfl

/-- A sum over the points and the rows of their blocks is the sum over the rows of the image. -/
theorem sum_rows (c : Dev nD) (g : (Fin 32 → EReal) → EReal) :
    ∑ t : Fin cfg0.N, ∑ p : Fin 128, g (brow (rows m c t) p) = ∑ r : Fin 8192, g (frow (image m c) r) :=
  Fin.sum_mul_add_congr (fun t p h => congrArg g (rows_at m c t p _ rfl)) (by rw [count_pts])

/-- The loss array after the run. -/
theorem loss_end (c : Dev nD) : (dats m 0 c).arrAt 5 (cfgs 0).N =
    fun _ => lossOf (∑ r : Fin 8192, err (frow (image m c) r) (tab (table m c))) := by
  refine (dats m 0 c).arrAt_eq_of_covers 5 _ (by decide +kernel) fun t hf y => ?_
  blk_simp
  rw [after0_5, loss_out m c t ((flush0_5 t).mp hf), ← sum_rows m c fun z => err z (tab (table m c))]
  rfl

/-- The perplexity array after the run. -/
theorem perp_end (c : Dev nD) :
    (dats m 0 c).arrAt 6 (cfgs 0).N = fun _ => perpOf fun k => ∑ r : Fin 8192, hot (frow (image m c) r) (tab (table m c)) k := by
  refine (dats m 0 c).arrAt_eq_of_covers 6 _ (by decide +kernel) fun t hf y => ?_
  blk_simp
  rw [after0_6, perp_out m c t ((flush0_6 t).mp hf)]
  exact congrArg perpOf (funext fun k => sum_rows m c fun z => hot z (tab (table m c)) k)

end Cert.KernelIdeal.Vq

end
-- ==== Proof.Vq.Results.lean ====
module

public import proofs.«01_k».proof.Proof.Vq.Arrays

/-! The run of the kernel: every result over the rows of the image and the table. -/

@[expose] public section

set_option maxRecDepth 16384

noncomputable section

namespace Cert.KernelIdeal.Vq

open Idealize.ShloMosaic Idealize.SL.Sem Cert.KernelIdeal Cert.KernelIdeal.Gen
open Idealize.ShloMosaic.Pipeline (Dat)
open Cert.Vq

/-- The passed rows as an image again. -/
def moved (y : Arr S8192x32) : Arr S8x32x32x32 :=
  transpose S8x32x32x32 [0, 3, 1, 2] (shapeCast S8x32x32x32 y shapeCasts_S8192x32_S8x32x32x32)
    transposes_S8x32x32x32_S8x32x32x32_0_3_1_2

/-- The passed rows as an image, at an index. -/
theorem moved_at (y : Arr S8192x32) (a : Fin 8) (b c d : Fin 32) : moved y (ix4 a d b c) = y (ix2 (rowNo a b c) d) := by
  pointwise [moved, rowNo]

/-- A one-by-one array read as a scalar. -/
theorem scalar_at (y : Arr S1x1) (v : EReal) (h : y = fun _ => v) :
    (shapeCast S_ y shapeCasts_S1x1_S_ : Arr S_) = fun _ => v := by
  subst h
  rfl

/-- The image result after the operations that follow the grid. -/
theorem tail_image (W : Valuation τ sig (Elt Ideal)) :
    StableHlo.after hostOps1 W (Proc.devRef .tc main_v4) = moved (W (Proc.devRef .tc main_v2_2)) := by
  after_results
  rfl

/-- The loss after the operations that follow the grid. -/
theorem tail_loss (W : Valuation τ sig (Elt Ideal)) :
    StableHlo.after hostOps1 W (Proc.devRef .tc main_v5)
      = (shapeCast S_ (W (Proc.devRef .tc main_v2_3) : Arr S1x1) shapeCasts_S1x1_S_ : Arr S_) := by
  after_results
  rfl

/-- The perplexity after the operations that follow the grid. -/
theorem tail_perp (W : Valuation τ sig (Elt Ideal)) :
    StableHlo.after hostOps1 W (Proc.devRef .tc main_v6)
      = (shapeCast S_ (W (Proc.devRef .tc main_v2_4) : Arr S1x1) shapeCasts_S1x1_S_ : Arr S_) := by
  after_results
  rfl

set_option maxHeartbeats 800000 in
/-- The run of the kernel, with every result. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ c : Dev nD,
        r.2.mem (c.tc.loc main_v5) = (fun _ => lossOf (∑ r : Fin 8192, err (frow (image m c) r) (tab (table m c))))
        ∧ r.2.mem (c.tc.loc main_v4) = moved (passes (image m c) (table m c))
        ∧ r.2.mem (c.tc.loc main_v6)
          = (fun _ => perpOf fun k => ∑ r : Fin 8192, hot (frow (image m c) r) (tab (table m c)) k)
        ∧ r.2.mem (c.tc.loc main_v2_0) = hots (image m c) (table m c)
        ∧ r.2.mem (c.tc.loc main_v2_1) = codes (image m c) (table m c)
        ∧ r.2.mem (c.tc.loc main_arg0) = m (c.tc.loc main_arg0)
        ∧ r.2.mem (c.tc.loc main_arg1) = m (c.tc.loc main_arg1) := by
  run_from Cert.KernelIdeal.Gen.run_main m g & Cert.KernelIdeal.Gen.unchanged m g
  · unfold Pipeline.afterTail₀
    rw [show ([hostOps1] : List (List (HloOp τ sig (Elt Ideal)))).flatten = hostOps1 from rfl, tail_loss]
    exact scalar_at _ _ ((Pipeline.withArrays_arr _ launch0.win.arr_inj c _ _ 5).trans (loss_end m c))
  · unfold Pipeline.afterTail₀
    rw [show ([hostOps1] : List (List (HloOp τ sig (Elt Ideal)))).flatten = hostOps1 from rfl, tail_image]
    exact congrArg moved ((Pipeline.withArrays_arr _ launch0.win.arr_inj c _ _ 4).trans (passes_end m c))
  · unfold Pipeline.afterTail₀
    rw [show ([hostOps1] : List (List (HloOp τ sig (Elt Ideal)))).flatten = hostOps1 from rfl, tail_perp]
    exact scalar_at _ _ ((Pipeline.withArrays_arr _ launch0.win.arr_inj c _ _ 6).trans (perp_end m c))
  · exact hots_end m c
  · exact codes_end m c

end Cert.KernelIdeal.Vq

end
-- ==== Proof.Vq.RefRun.lean ====
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunRead

/-! The run of the reference: its results named in stages, each stage the reference's own line over the earlier ones. -/

@[expose] public section

set_option maxRecDepth 16384

noncomputable section

namespace Cert.ReferenceIdeal.Vq

open Idealize.ShloMosaic Idealize.SL.Sem Cert.ReferenceIdeal Cert.ReferenceIdeal.Facts₀

/-- An f32 array of the given shape. -/
abbrev Arr (S : Shape) := FVec Ideal S .f32
/-- An i32 array of the given shape. -/
abbrev ArrI (S : Shape) := IVec S 32

/-- The input with the channel axis last. -/
def ZP (x : Arr S8x32x32x32) : Arr S8x32x32x32 :=
  transpose S8x32x32x32 [0, 2, 3, 1] x transposes_S8x32x32x32_S8x32x32x32_0_2_3_1

/-- The input as 8192 rows of 32 channels. -/
def ZF (x : Arr S8x32x32x32) : Arr S8192x32 := shapeCast S8192x32 (ZP x) shapeCasts_S8x32x32x32_S8192x32

/-- The squared distance of every row to every code, as the reference expands it. -/
def DIST (x : Arr S8x32x32x32) (e : Arr S8192x32) : Arr S8192x8192 :=
  subf
    (addf
      (broadcastInDim S8192x8192 ![0, 1] bcast_S8192x1_S8192x8192_0_1
        (broadcastInDim S8192x1 ![0] bcast_S8192_S8192x1_0
          (Host.reduceAdd (mulf (ZF x) (ZF x)) (constant S_ .f32 0x00000000#32) reducesTo_S8192x32_S8192_d1 h_S_)))
      (broadcastInDim S8192x8192 ![0, 1] bcast_S1x8192_S8192x8192_0_1
        (broadcastInDim S1x8192 ![1] bcast_S8192_S1x8192_1
          (Host.reduceAdd (mulf e e) (constant S_ .f32 0x00000000#32) reducesTo_S8192x32_S8192_d1 h_S_))))
    (mulf
      (broadcastInDim S8192x8192 ![] bcast_S_S8192x8192 (constant S_ .f32 0x40000000#32))
      (Host.dotGeneral dot_S8192x32_S32x8192_S8192x8192_1_0_0_1_n_n none (ZF x)
        (transpose S32x8192 [1, 0] e transposes_S8192x32_S32x8192_1_0)))

/-- The second component of a two-operand reduction, at any shapes. -/
def argIdx {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) : IVec t 32 := fun j => (Host.argReduce f x y ix iy h hu j).2

/-- The index of the least value of every row. -/
def AMIN (D : Arr S8192x8192) : ArrI S8192 :=
  argIdx (reducer_argmin_f32_i32 (F := Ideal)) D (iotaInDim S8192x8192 32 1) (constant S_ .f32 0x7F800000#32)
    (constantI S_ 32 0#32) reducesTo_S8192x8192_S8192_d1 h_S_

/-- The index of the nearest code of every row. -/
def CB (x : Arr S8x32x32x32) (e : Arr S8192x32) : ArrI S8192 := AMIN (DIST x e)

/-- A vector of row or column numbers with a negative one counted from the end. -/
def WRAP (v : ArrI S8192) : ArrI S8192 :=
  select (cmpi .slt v (broadcastInDim S8192 ![] bcast_S_S8192 (constantI S_ 32 0#32)))
    (addi v (broadcastInDim S8192 ![] bcast_S_S8192 (constantI S_ 32 8192#32))) v

/-- Two columns of numbers side by side. -/
def CAT (a b : ArrI S8192x1) : ArrI S8192x2 :=
  concatenate S8192x2 1 [⟨S8192x1, a⟩, ⟨S8192x1, b⟩] concatenates_S8192x1_S8192x1_S8192x2_d1

/-- The two columns under their name. -/
theorem cat_eq (a b : ArrI S8192x1) :
    concatenate S8192x2 1 [⟨S8192x1, a⟩, ⟨S8192x1, b⟩] concatenates_S8192x1_S8192x1_S8192x2_d1 = CAT a b := rfl

/-- The one-hot rows of a vector of code numbers: ones scattered into zeros. -/
def HOT (v : ArrI S8192) : Arr S8192x8192 :=
  Host.scatter scatter_S8192x8192_S8192x2_S8192_n_01_01_1 (fun _ b => b)
    (broadcastInDim S8192x8192 ![] bcast_S_S8192x8192 (constant S_ .f32 0x00000000#32))
    (CAT (broadcastInDim S8192x1 ![0] bcast_S8192_S8192x1_0 (WRAP (iotaInDim S8192 32 0)))
      (broadcastInDim S8192x1 ![0] bcast_S8192_S8192x1_0 (WRAP v)))
    (broadcastInDim S8192 ![] bcast_S_S8192 (constant S_ .f32 0x3F800000#32))

/-- The encodings. -/
def ENC (x : Arr S8x32x32x32) (e : Arr S8192x32) : Arr S8192x8192 := HOT (CB x e)

/-- The quantized rows, in the shape of the input with the channel axis last. -/
def ZQ (x : Arr S8x32x32x32) (e : Arr S8192x32) : Arr S8x32x32x32 :=
  shapeCast S8x32x32x32 (Host.dotGeneral dot_S8192x8192_S8192x32_S8192x32_1_0_0_1_n_n none (ENC x e) e)
    shapeCasts_S8192x32_S8x32x32x32

/-- The mean of the squared differences. -/
def MSE (x : Arr S8x32x32x32) (e : Arr S8192x32) : Arr S_ :=
  Host.divf (Host.reduceAdd (mulf (subf (ZQ x e) (ZP x)) (subf (ZQ x e) (ZP x))) (constant S_ .f32 0x00000000#32)
    reducesTo_S8x32x32x32_S_d0_1_2_3 h_S_) (constant S_ .f32 0x48800000#32)

/-- The loss. -/
def LOSS (x : Arr S8x32x32x32) (e : Arr S8192x32) : Arr S_ :=
  addf (MSE x e) (mulf (constant S_ .f32 0x3E800000#32) (MSE x e))

/-- The straight-through output, with the channel axis second again. -/
def OUT (x : Arr S8x32x32x32) (e : Arr S8192x32) : Arr S8x32x32x32 :=
  transpose S8x32x32x32 [0, 3, 1, 2] (addf (ZP x) (subf (ZQ x e) (ZP x)))
    transposes_S8x32x32x32_S8x32x32x32_0_3_1_2

/-- How often each code is used, as a share of the rows. -/
def EMEAN (x : Arr S8x32x32x32) (e : Arr S8192x32) : Arr S8192 :=
  Host.divf (Host.reduceAdd (ENC x e) (constant S_ .f32 0x00000000#32) reducesTo_S8192x8192_S8192_d0 h_S_)
    (broadcastInDim S8192 ![] bcast_S_S8192 (constant S_ .f32 0x46000000#32))

/-- The perplexity. -/
def PERP (x : Arr S8x32x32x32) (e : Arr S8192x32) : Arr S_ :=
  Host.exp (Host.negf (Host.reduceAdd
    (mulf (EMEAN x e) (Host.log (addf (EMEAN x e)
      (broadcastInDim S8192 ![] bcast_S_S8192 (constant S_ .f32 0x2EDBE6FF#32)))))
    (constant S_ .f32 0x00000000#32) reducesTo_S8192_S_d0 h_S_))

/-- A called function's intermediate array read back from the buffer it was put in. -/
theorem of_to {T : BufTy} (x : StableHlo.TRef sig T) (v : T.Contents (Elt Ideal)) : x.ofBuf (x.toBuf v) = v := by
  simp only [StableHlo.TRef.ofBuf, StableHlo.TRef.toBuf, cast_cast, cast_eq]

/-- The distances as the called function reads them. -/
theorem of_v15 (a b c) (v : Arr S8192x8192) :
    (StableHlo.TRef.of (T := ⟨S8192x8192, .f32⟩) main_v15 a b c).ofBuf (Val := Elt Ideal) v = v := rfl

/-- The indices as the called function leaves them. -/
theorem to_v16 (a b c) (v : ArrI S8192) :
    (StableHlo.TRef.of (T := ⟨S8192, .i32⟩) main_v16 a b c).toBuf (Val := Elt Ideal) v = v := rfl

set_option maxHeartbeats 4000000 in
/-- The reference runs to the named results and leaves its arguments. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ c : Dev nD,
        r.2.mem (c.tc.loc main_v45) = LOSS (m (c.tc.loc main_arg0)) (m (c.tc.loc main_arg1))
        ∧ r.2.mem (c.tc.loc main_v58) = OUT (m (c.tc.loc main_arg0)) (m (c.tc.loc main_arg1))
        ∧ r.2.mem (c.tc.loc main_v57) = PERP (m (c.tc.loc main_arg0)) (m (c.tc.loc main_arg1))
        ∧ r.2.mem (c.tc.loc main_v33) = ENC (m (c.tc.loc main_arg0)) (m (c.tc.loc main_arg1))
        ∧ r.2.mem (c.tc.loc main_v16) = CB (m (c.tc.loc main_arg0)) (m (c.tc.loc main_arg1))
        ∧ r.2.mem (c.tc.loc main_arg0) = m (c.tc.loc main_arg0)
        ∧ r.2.mem (c.tc.loc main_arg1) = m (c.tc.loc main_arg1) := by
  refine θ_run_mono (StableHlo.run_hlo _ _ (by hlo_seq) (by decide) (by decide) (by simp)
      (by intro _ h; (repeat (cases h with | head => rfl | tail _ h => ?_)); exact nomatch h) _ _) ?_
  intro r hr c
  have hc := hr c
  clear hr
  refine ⟨(hc _).trans ?_, (hc _).trans ?_, (hc _).trans ?_, (hc _).trans ?_, (hc _).trans ?_, (hc _).trans ?_, (hc _).trans ?_⟩
  · after_reads_simp
    rw [cat_eq]
    after_reads_simp
    simp only [of_to, of_v15, to_v16]
    rfl
  · after_reads_simp
    rw [cat_eq]
    after_reads_simp
    simp only [of_to, of_v15, to_v16]
    rfl
  · after_reads_simp
    rw [cat_eq]
    after_reads_simp
    simp only [of_to, of_v15, to_v16]
    rfl
  · after_reads_simp
    rw [cat_eq]
    after_reads_simp
    simp only [of_to, of_v15, to_v16]
    rfl
  · after_reads_simp
    simp only [of_to, of_v15, to_v16]
    rfl
  · after_reads_simp
  · after_reads_simp

/-- The reference runs, leaves its arguments, and ends with every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem (c.tc.loc main_arg0) = m (c.tc.loc main_arg0)
        ∧ r.2.mem (c.tc.loc main_arg1) = m (c.tc.loc main_arg1)) ∧ r.2.sem = fun _ => 0 :=
  θ_run_mono (run m g) fun r h =>
    ⟨fun c => (h c).2.2.2.2.2, sem_eq_zero_of_no_sems (by decide) _⟩

end Cert.ReferenceIdeal.Vq

end
-- ==== Proof.Vq.RefVal.lean ====
module

public import proofs.«01_k».proof.Proof.Vq.RefRun
public import proofs.«01_k».proof.Proof.Vq.Spec
public import Idealize.ShloMosaic.Lib.Pointwise
public import Idealize.ShloMosaic.Lib.Routing.OpsSet
public import Idealize.ShloMosaic.Lib.Routing.OpsPair
public import Idealize.ShloMosaic.Lib.Pipeline.ValueKit
public import Idealize.ShloMosaic.PureOps.Ideal.Laws

/-! The reference's results read at an index, over the rows of the input and the table of codes. -/

@[expose] public section

set_option maxRecDepth 16384

noncomputable section

namespace Cert.ReferenceIdeal.Vq

open Idealize.ShloMosaic Cert.ReferenceIdeal Cert.ReferenceIdeal.Facts₀
open Cert.Vq

/-- A row of the flattened input. -/
def row (x : Arr S8x32x32x32) (r : Fin 8192) (d : Fin 32) : EReal := ZF x (ix2 r d)

/-- The table of codes. -/
def tab (e : Arr S8192x32) (k : Fin 8192) (d : Fin 32) : EReal := e (ix2 k d)

theorem dist_at (x : Arr S8x32x32x32) (e : Arr S8192x32) (r k : Fin 8192) :
    DIST x e (ix2 r k) = sqDist (row x r) (tab e) k := by
  pointwise [DIST, sqDist, row, tab, two]

/-! ### The nearest code -/

/-- The reduction's step keeps one of the two pairs, the earlier one. -/
theorem step_cases (a b : EReal × BitVec 32) :
    (reducer_argmin_f32_i32 (F := Ideal) a b = a ∧ Le a b) ∨ (reducer_argmin_f32_i32 (F := Ideal) a b = b ∧ Le b a) := by
  obtain ⟨x, i⟩ := a
  obtain ⟨y, j⟩ := b
  have hs : IntOp.cmpi .slt i j = if i.toInt < j.toInt then 1#1 else 0#1 := by
    by_cases h : i.toInt < j.toInt <;> simp [IntOp.cmpi, BitVec.slt, h]
  rcases lt_trichotomy x y with h | h | h
  · left
    refine ⟨?_, Or.inl h⟩
    simp [reducer_argmin_f32_i32, Ideal.cmpf_def, Ideal.cmp, h, h.ne, Scalar.select, IntOp.ori, IntOp.andi]
  · subst h
    by_cases hij : i.toInt < j.toInt
    · left
      refine ⟨?_, Or.inr ⟨rfl, hij.le⟩⟩
      simp [reducer_argmin_f32_i32, Ideal.cmpf_def, Ideal.cmp, Scalar.select, IntOp.ori, IntOp.andi, hs, hij]
    · right
      refine ⟨?_, Or.inr ⟨rfl, not_lt.1 hij⟩⟩
      simp [reducer_argmin_f32_i32, Ideal.cmpf_def, Ideal.cmp, Scalar.select, IntOp.ori, IntOp.andi, hs, hij]
  · right
    refine ⟨?_, Or.inl h⟩
    simp [reducer_argmin_f32_i32, Ideal.cmpf_def, Ideal.cmp, h.not_gt, h.ne', Scalar.select, IntOp.ori, IntOp.andi]

/-- The pairs folded over at `j` are those of the indices above `j`. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i : s.Idx, h.drop i = j ∧ p = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

/-- That component is the one the fold over the pairs above an index ends at. -/
theorem argIdx_eq {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t)
    (hu : 0 < u.numel) (j : t.Idx) :
    argIdx f x y ix iy h hu j
      = ((Host.argReduceFiber x y h j).foldl f (ix (Shape.Idx.first hu), iy (Shape.Idx.first hu))).2 := by
  unfold argIdx
  rw [Ideal.argReduce_eq_reduce2, Host.reduce2_eq_foldl_fiber]

/-- The step's result is no later than the pair so far. -/
theorem step_left (a b : EReal × BitVec 32) : Le (reducer_argmin_f32_i32 (F := Ideal) a b) a := by
  rcases step_cases a b with ⟨h, h'⟩ | ⟨h, h'⟩
  · rw [h]; exact Le.refl _
  · rw [h]; exact h'

/-- The step's result is no later than the new pair. -/
theorem step_right (a b : EReal × BitVec 32) : Le (reducer_argmin_f32_i32 (F := Ideal) a b) b := by
  rcases step_cases a b with ⟨h, h'⟩ | ⟨h, h'⟩
  · rw [h]; exact h'
  · rw [h]; exact Le.refl _

/-- The indices above row `r` are those of row `r`. -/
theorem drop_iff (i : S8192x8192.Idx) (r : Fin 8192) :
    (reducesTo_S8192x8192_S8192_d1).drop i = ix1 r ↔ i = ix2 r (i 1) := by
  have e := Shape.ReducesTo.drop_apply_val_of_eq reducesTo_S8192x8192_S8192_d1 i 0 0
  constructor
  · intro h
    funext b
    match b with
    | ⟨0, _⟩ => exact Fin.ext (e.symm.trans (congrArg (fun j : S8192.Idx => (j 0).val) h))
    | ⟨1, _⟩ => rfl
  · intro h
    funext b
    match b with
    | ⟨0, _⟩ => exact Fin.ext (e.trans (congrArg (fun j : S8192x8192.Idx => (j 0).val) h))

/-- The index the reduction along a row ends at is the first place of the row's least value. -/
theorem argmin_at (D : Arr S8192x8192) (r : Fin 8192) :
    AMIN D (ix1 r) = BitVec.ofNat 32 (first fun k => D (ix2 r k)).val := by
  unfold AMIN
  rw [argIdx_eq]
  have hm := mem_fiber D (iotaInDim S8192x8192 32 1) reducesTo_S8192x8192_S8192_d1 (ix1 r)
  generalize Host.argReduceFiber D (iotaInDim S8192x8192 32 1) reducesTo_S8192x8192_S8192_d1 (ix1 r) = L at hm ⊢
  have hinit : (constant (F := Ideal) S_ .f32 0x7F800000#32 (Shape.Idx.first h_S_) : EReal) = ⊤ := by
    show Ideal.ofBits .f32 0x7F800000#32 = ⊤
    simp [Ideal.ofBits, Ideal.ieee]
  obtain ⟨h1, -, h3⟩ := foldl_earliest (reducer_argmin_f32_i32 (F := Ideal))
    (fun a b => (step_cases a b).imp And.left And.left) (fun a b => step_left a b) (fun a b => step_right a b) L
    (constant (F := Ideal) S_ .f32 0x7F800000#32 (Shape.Idx.first h_S_), constantI S_ 32 0#32 (Shape.Idx.first h_S_))
  refine num_of_earliest (fun k => D (ix2 r k)) _ ?_ ?_
  · rcases h1 with h | h
    · exact Or.inl (h.trans (Prod.ext hinit rfl))
    · right
      obtain ⟨i, hn, hp⟩ := (hm _).1 h
      exact ⟨i 1, hp.trans (Prod.ext (congrArg D ((drop_iff i r).1 hn)) rfl)⟩
  · intro j
    exact h3 _ ((hm _).2 ⟨ix2 r j, (drop_iff _ r).2 rfl, rfl⟩)

/-- The indices of the nearest codes. -/
theorem cb_at (x : Arr S8x32x32x32) (e : Arr S8192x32) (r : Fin 8192) :
    CB x e (ix1 r) = BitVec.ofNat 32 (code (row x r) (tab e)).val := by
  have h : (fun k => DIST x e (ix2 r k)) = sqDist (row x r) (tab e) := funext fun k => dist_at x e r k
  unfold CB code
  rw [← h, argmin_at]

end Cert.ReferenceIdeal.Vq

end
-- ==== Proof.Vq.RefHot.lean ====
module

public import proofs.«01_k».proof.Proof.Vq.RefVal

/-! The reference's one-hot rows: ones scattered at the numbered places are the one-hot rows of the nearest codes. -/

@[expose] public section

set_option maxRecDepth 16384

noncomputable section

namespace Cert.ReferenceIdeal.Vq

open Idealize.ShloMosaic Cert.ReferenceIdeal Cert.ReferenceIdeal.Facts₀
open Cert.Vq

/-- Update `n` starts, on axis `a`, at its number `a` read signed. -/
theorem start_at (idx : ArrI S8192x2) (n : Fin 8192) (a : Fin 2) :
    scatter_S8192x8192_S8192x2_S8192_n_01_01_1.start (ix1 n) idx a = (idx (ix2 n a)).toInt := by
  have hm : a ∈ scatter_S8192x8192_S8192x2_S8192_n_01_01_1.scatterDimsToOperandDims := by
    show a ∈ ([0, 1] : List (Fin 2))
    fin_cases a <;> simp
  unfold ScatterDims.start
  rw [dif_pos hm]
  refine congrArg (fun i => (idx i).toInt) (funext fun b => Fin.ext ?_)
  match b with
  | ⟨0, _⟩ => rfl
  | ⟨1, _⟩ =>
    match a with
    | ⟨0, _⟩ => rfl
    | ⟨1, _⟩ => rfl

/-- An update covers one element. -/
theorem window_at (n : Fin 8192) (a : Fin 2) :
    scatter_S8192x8192_S8192x2_S8192_n_01_01_1.window (ix1 n) a = 0 := by
  match a with
  | ⟨0, _⟩ => rfl
  | ⟨1, _⟩ => rfl

/-- Update `n` lands at `(r, c)` exactly when its two numbers are `r` and `c`. -/
theorem lands_iff (idx : ArrI S8192x2) (n r c : Fin 8192) :
    scatter_S8192x8192_S8192x2_S8192_n_01_01_1.resultIdx? (ix1 n) idx = some (ix2 r c)
      ↔ (idx (ix2 n 0)).toInt = r.val ∧ (idx (ix2 n 1)).toInt = c.val := by
  rw [Routing.resultIdx?_eq_some]
  constructor
  · intro h
    refine ⟨?_, ?_⟩
    · have := h 0
      rw [start_at, window_at] at this
      simpa using this
    · have := h 1
      rw [start_at, window_at] at this
      simpa using this
  · rintro ⟨h0, h1⟩ a
    match a with
    | ⟨0, _⟩ => exact (congrArg₂ (fun (p : ℤ) (q : ℕ) => p + (q : ℤ)) (start_at idx n 0) (window_at n 0)).trans ((Int.add_zero _).trans h0)
    | ⟨1, _⟩ => exact (congrArg₂ (fun (p : ℤ) (q : ℕ) => p + (q : ℤ)) (start_at idx n 1) (window_at n 1)).trans ((Int.add_zero _).trans h1)

/-- A number below 8192 is not counted from the end. -/
theorem wrap_at (v : ArrI S8192) (r k : Fin 8192) (h : v (ix1 r) = BitVec.ofNat 32 k.val) :
    WRAP v (ix1 r) = BitVec.ofNat 32 k.val := by
  have hk := k.isLt
  pointwise [WRAP]
  rw [h]
  refine Routing.wrap_of_lt _ _ ?_
  rw [BitVec.toNat_ofNat]
  omega

/-- The two columns at a row. -/
theorem cat_at (v w : ArrI S8192) (r : Fin 8192) :
    CAT (broadcastInDim S8192x1 ![0] bcast_S8192_S8192x1_0 v) (broadcastInDim S8192x1 ![0] bcast_S8192_S8192x1_0 w) (ix2 r 0) = v (ix1 r)
      ∧ CAT (broadcastInDim S8192x1 ![0] bcast_S8192_S8192x1_0 v) (broadcastInDim S8192x1 ![0] bcast_S8192_S8192x1_0 w) (ix2 r 1) = w (ix1 r) := by
  constructor
  · pointwise [CAT]
  · pointwise [CAT]

/-- The encodings are the one-hot rows. -/
theorem hot_at (v : ArrI S8192) (f : Fin 8192 → Fin 8192) (h : ∀ r, v (ix1 r) = BitVec.ofNat 32 (f r).val) (r c : Fin 8192) :
    HOT v (ix2 r c) = if c = f r then (1 : EReal) else 0 := by
  unfold HOT
  set I := CAT (broadcastInDim S8192x1 ![0] bcast_S8192_S8192x1_0 (WRAP (iotaInDim S8192 32 0)))
      (broadcastInDim S8192x1 ![0] bcast_S8192_S8192x1_0 (WRAP v)) with hI
  have hl : ∀ n, scatter_S8192x8192_S8192x2_S8192_n_01_01_1.resultIdx? (ix1 n) I = some (ix2 r c) ↔ n = r ∧ f n = c := by
    intro n
    rw [lands_iff, hI, (cat_at _ _ n).1, (cat_at _ _ n).2, wrap_at _ n n rfl, wrap_at _ n (f n) (h n), toInt_num, toInt_num]
    constructor
    · rintro ⟨h1, h2⟩
      exact ⟨Fin.ext (by exact_mod_cast h1), Fin.ext (by exact_mod_cast h2)⟩
    · rintro ⟨rfl, rfl⟩
      exact ⟨rfl, rfl⟩
  by_cases hc : c = f r
  · rw [if_pos hc]
    refine Routing.scatter_set_hit _ _ I _ (ix2 r c) 1 (fun k _ => ?_) (ix1 r) ((hl r).2 ⟨rfl, hc.symm⟩)
    idx_vars k
    pointwise []
  · rw [if_neg hc]
    refine (Routing.scatter_set_miss _ _ I _ (ix2 r c) (fun k hk => ?_)).trans ?_
    · idx_vars k
      obtain ⟨h1, h2⟩ := (hl _).1 hk
      exact hc (by rw [← h1, h2])
    · pointwise []

/-- The encodings at an index. -/
theorem enc_at (x : Arr S8x32x32x32) (e : Arr S8192x32) (r k : Fin 8192) :
    ENC x e (ix2 r k) = hot (row x r) (tab e) k :=
  hot_at (CB x e) (fun r => code (row x r) (tab e)) (cb_at x e) r k

end Cert.ReferenceIdeal.Vq

end
-- ==== Proof.Vq.RefRes.lean ====
module

public import proofs.«01_k».proof.Proof.Vq.RefHot

/-! The reference's three float results beside the encodings, in closed form over the rows and the table. -/

@[expose] public section

set_option maxRecDepth 16384

noncomputable section

namespace Cert.ReferenceIdeal.Vq

open Idealize.ShloMosaic Cert.ReferenceIdeal Cert.ReferenceIdeal.Facts₀
open Cert.Vq

/-- The channel-last input at an index is its row there. -/
theorem zp_at (x : Arr S8x32x32x32) (a : Fin 8) (b c d : Fin 32) : ZP x (ix4 a b c d) = row x (rowNo a b c) d := by
  unfold row ZF
  pointwise []
  refine congrArg (ZP x) ?_
  have ha : a = ⟨(rowNo a b c).val / 1024, by have := (rowNo a b c).isLt; omega⟩ := Fin.ext (by simp only [rowNo]; omega)
  have hb : b = ⟨(rowNo a b c).val / 32 % 32, by omega⟩ := Fin.ext (by simp only [rowNo]; omega)
  have hc : c = ⟨(rowNo a b c).val % 32, by omega⟩ := Fin.ext (by simp only [rowNo]; omega)
  rw [← ha, ← hb, ← hc]

/-- The quantized input at an index is the quantized row there. -/
theorem zq_at (x : Arr S8x32x32x32) (e : Arr S8192x32) (a : Fin 8) (b c d : Fin 32) :
    ZQ x e (ix4 a b c d) = quant (row x (rowNo a b c)) (tab e) d := by
  pointwise [ZQ]
  exact Finset.sum_congr rfl fun k _ => congrArg (· * tab e k d) (enc_at x e (rowNo a b c) k)

/-- A sum of arrays at an index. -/
theorem addf_ix (y w : Arr S8x32x32x32) (i : S8x32x32x32.Idx) : addf y w i = (y i + w i : EReal) := rfl

/-- A difference of arrays at an index. -/
theorem subf_ix (y w : Arr S8x32x32x32) (i : S8x32x32x32.Idx) : subf y w i = (y i - w i : EReal) := rfl

/-- A product of arrays at an index. -/
theorem mulf_ix (y w : Arr S8x32x32x32) (i : S8x32x32x32.Idx) : mulf y w i = (y i * w i : EReal) := rfl

/-- The channel axis moved from the last to the second place. -/
theorem back_at (y : Arr S8x32x32x32) (a : Fin 8) (b c d : Fin 32) :
    transpose S8x32x32x32 [0, 3, 1, 2] y transposes_S8x32x32x32_S8x32x32x32_0_3_1_2 (ix4 a d b c) = y (ix4 a b c d) := by
  pointwise []

/-- The straight-through output at an index. -/
theorem out_at (x : Arr S8x32x32x32) (e : Arr S8192x32) (a : Fin 8) (b c d : Fin 32) :
    OUT x e (ix4 a d b c) = pass (row x (rowNo a b c)) (tab e) d := by
  unfold OUT
  rw [back_at, addf_ix, subf_ix, zp_at, zq_at]
  rfl

/-- The rows are the places of the images. -/
theorem sum_rowNo (f : Fin 8192 → EReal) : ∑ a : Fin 8, ∑ b : Fin 32, ∑ c : Fin 32, f (rowNo a b c) = ∑ r, f r := by
  have h1 : ∑ a : Fin 8, ∑ l : Fin 1024, f ⟨a.val * 1024 + l.val, by omega⟩ = ∑ r, f r :=
    Fin.sum_mul_add_congr (fun _ _ _ => rfl) (by norm_num)
  rw [← h1]
  refine Finset.sum_congr rfl fun a _ => ?_
  refine Fin.sum_mul_add_congr (fun b c hl => congrArg f (Fin.ext ?_)) (by norm_num)
  simp only [rowNo]
  omega

/-- The total squared error. -/
theorem total_at (x : Arr S8x32x32x32) (e : Arr S8192x32) (j : S_.Idx) :
    Ideal.hostReduceAdd reducesTo_S8x32x32x32_S_d0_1_2_3 (mulf (subf (ZQ x e) (ZP x)) (subf (ZQ x e) (ZP x))) 0 j
      = ∑ r, err (row x r) (tab e) := by
  rw [Ideal.hostReduceAdd_total _ (fun b => b.elim0), zero_add, sum_idx4, ← sum_rowNo fun r => err (row x r) (tab e)]
  refine Finset.sum_congr rfl fun a _ => Finset.sum_congr rfl fun b _ => Finset.sum_congr rfl fun c _ => ?_
  unfold err
  refine Finset.sum_congr rfl fun d _ => ?_
  rw [mulf_ix, subf_ix, zp_at, zq_at]

/-- The mean squared error. -/
theorem mse_at (x : Arr S8x32x32x32) (e : Arr S8192x32) (j : S_.Idx) :
    MSE x e j = Ideal.div (∑ r, err (row x r) (tab e)) (Ideal.ofBits .f32 0x48800000#32) := by
  pointwise [MSE]
  rw [total_at]

/-- The loss. -/
theorem loss_at (x : Arr S8x32x32x32) (e : Arr S8192x32) (j : S_.Idx) :
    LOSS x e j = lossOf (∑ r, err (row x r) (tab e)) := by
  pointwise [LOSS]
  rw [mse_at]
  rfl

/-- The perplexity. -/
theorem perp_at (x : Arr S8x32x32x32) (e : Arr S8192x32) (j : S_.Idx) :
    PERP x e j = perpOf fun k => ∑ r, hot (row x r) (tab e) k := by
  pointwise [PERP, EMEAN]
  have h : ∀ k, ∑ r, ENC x e (ix2 r k) = ∑ r, hot (row x r) (tab e) k := fun k =>
    Finset.sum_congr rfl fun r _ => enc_at x e r k
  simp only [h]
  rfl

end Cert.ReferenceIdeal.Vq

end
-- ==== Proof.Vq.Equation.lean ====
module

public import proofs.«01_k».proof.Proof.Vq.Results
public import proofs.«01_k».proof.Proof.Vq.RefRes

/-! The kernel's results and the reference's results are the same arrays. -/

@[expose] public section

set_option maxRecDepth 16384

noncomputable section

namespace Cert.Vq

open Idealize.ShloMosaic Cert.KernelIdeal.Vq

/-- Both programs cut the image into the same rows. -/
theorem frow_eq (x : Arr Cert.KernelIdeal.S8x32x32x32) (r : Fin 8192) : frow x r = Cert.ReferenceIdeal.Vq.row x r := rfl

/-- Both programs read the same table. -/
theorem tab_eq (e : Arr Cert.KernelIdeal.S8192x32) : tab e = Cert.ReferenceIdeal.Vq.tab e := rfl

/-- The loss. -/
theorem loss_eq (x : Arr Cert.KernelIdeal.S8x32x32x32) (e : Arr Cert.KernelIdeal.S8192x32) :
    (fun _ => lossOf (∑ r : Fin 8192, err (frow x r) (tab e))) = Cert.ReferenceIdeal.Vq.LOSS x e := by
  funext j
  rw [Cert.ReferenceIdeal.Vq.loss_at]
  rfl

/-- The image passed on. -/
theorem image_eq (x : Arr Cert.KernelIdeal.S8x32x32x32) (e : Arr Cert.KernelIdeal.S8192x32) :
    moved (passes x e) = Cert.ReferenceIdeal.Vq.OUT x e := by
  funext i
  obtain ⟨a, d, b, c, rfl⟩ : ∃ (a : Fin 8) (d b c : Fin 32), i = ix4 a d b c := by
    idx_vars i
    exact ⟨_, _, _, _, rfl⟩
  rw [moved_at, Cert.ReferenceIdeal.Vq.out_at]
  rfl

/-- The perplexity. -/
theorem perp_eq (x : Arr Cert.KernelIdeal.S8x32x32x32) (e : Arr Cert.KernelIdeal.S8192x32) :
    (fun _ => perpOf fun k => ∑ r : Fin 8192, hot (frow x r) (tab e) k) = Cert.ReferenceIdeal.Vq.PERP x e := by
  funext j
  rw [Cert.ReferenceIdeal.Vq.perp_at]
  rfl

/-- The one-hot rows. -/
theorem hots_eq (x : Arr Cert.KernelIdeal.S8x32x32x32) (e : Arr Cert.KernelIdeal.S8192x32) :
    hots x e = Cert.ReferenceIdeal.Vq.ENC x e := by
  funext i
  obtain ⟨r, k, rfl⟩ : ∃ (r k : Fin 8192), i = ix2 r k := by
    idx_vars i
    exact ⟨_, _, rfl⟩
  rw [Cert.ReferenceIdeal.Vq.enc_at]
  rfl

/-- The code numbers. -/
theorem codes_eq (x : Arr Cert.KernelIdeal.S8x32x32x32) (e : Arr Cert.KernelIdeal.S8192x32) :
    codes x e = Cert.ReferenceIdeal.Vq.CB x e := by
  funext i
  obtain ⟨r, rfl⟩ : ∃ r : Fin 8192, i = ix1 r := by
    idx_vars i
    exact ⟨_, rfl⟩
  rw [Cert.ReferenceIdeal.Vq.cb_at]
  rfl

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Vq.Equation
public import Idealize.ShloMosaic.Adequacy
public import Idealize.ShloMosaic.Init

@[expose] public section

set_option maxRecDepth 16384

noncomputable section

namespace Cert.Proof

open Idealize.ShloMosaic Idealize.SL.Sem Cert.Kernel

/-- At exact arithmetic every result of the kernel is the reference's. -/
theorem algebraic : Cert.algebraic_KernelIdeal_ReferenceIdeal := by
  pair_intro
  · run_from Cert.KernelIdeal.Vq.run m g
  · refine θ_run_mono (Cert.ReferenceIdeal.Vq.run m' g') fun r hr c => ?_
    obtain ⟨h1, h2, h3, h4, h5, h6, h7⟩ := hr c
    obtain ⟨ha, hb⟩ := hagree c
    exact ⟨h1.trans ((congrArg₂ Cert.ReferenceIdeal.Vq.LOSS ha hb).trans (Cert.Vq.loss_eq _ _).symm),
      h2.trans ((congrArg₂ Cert.ReferenceIdeal.Vq.OUT ha hb).trans (Cert.Vq.image_eq _ _).symm),
      h3.trans ((congrArg₂ Cert.ReferenceIdeal.Vq.PERP ha hb).trans (Cert.Vq.perp_eq _ _).symm),
      h4.trans ((congrArg₂ Cert.ReferenceIdeal.Vq.ENC ha hb).trans (Cert.Vq.hots_eq _ _).symm),
      h5.trans ((congrArg₂ Cert.ReferenceIdeal.Vq.CB ha hb).trans (Cert.Vq.codes_eq _ _).symm), h6, h7⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Vq.frame m ρ, trivial, algebraic⟩

end Cert.Proof

end
